-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_windows_and_binary_codebook [hPre_finite_windows_and_binary_codebook : Cert.Pre_finite_windows_and_binary_codebook.Facts] (m : (ℓ : Loc Cert.KernelIdeal.nD Cert.KernelIdeal.τ Cert.KernelIdeal.sig) → Buf (Elt Ideal) ℓ) : Prop :=
  ∀ c : Dev Cert.KernelIdeal.nD,
    (Cert.Pre_finite_windows_and_binary_codebook.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_windows_and_binary_codebook.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_windows_and_binary_codebook [hPre_finite_windows_and_binary_codebook : Cert.Pre_finite_windows_and_binary_codebook.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_windows_and_binary_codebook.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_windows_and_binary_codebook.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_windows_and_binary_codebook [hKernelIdeal : Cert.KernelIdeal.Facts] [hPre_finite_windows_and_binary_codebook : Cert.Pre_finite_windows_and_binary_codebook.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_windows_and_binary_codebook m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_windows_and_binary_codebook [hReferenceIdeal : Cert.ReferenceIdeal.Facts] [hPre_finite_windows_and_binary_codebook : Cert.Pre_finite_windows_and_binary_codebook.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_windows_and_binary_codebook m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_windows_and_binary_codebook [hKernelIdeal : Cert.KernelIdeal.Facts] [hReferenceIdeal : Cert.ReferenceIdeal.Facts] [hPre_finite_windows_and_binary_codebook : Cert.Pre_finite_windows_and_binary_codebook.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_windows_and_binary_codebook m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_windows_and_binary_codebook : Cert.Pre_finite_windows_and_binary_codebook.Facts),
    quiescent_Kernel (hKernel := hKernel)
    ∧ quiescent_KernelIdeal (hKernelIdeal := hKernelIdeal)
    ∧ quiescent_KernelIdeal_pre_finite_windows_and_binary_codebook (hKernelIdeal := hKernelIdeal) (hPre_finite_windows_and_binary_codebook := hPre_finite_windows_and_binary_codebook)
    ∧ quiescent_ReferenceIdeal (hReferenceIdeal := hReferenceIdeal)
    ∧ quiescent_ReferenceIdeal_pre_finite_windows_and_binary_codebook (hReferenceIdeal := hReferenceIdeal) (hPre_finite_windows_and_binary_codebook := hPre_finite_windows_and_binary_codebook)
    ∧ preserves_Kernel_KernelIdeal
    ∧ algebraic_KernelIdeal_ReferenceIdeal_pre_finite_windows_and_binary_codebook (hKernelIdeal := hKernelIdeal) (hReferenceIdeal := hReferenceIdeal) (hPre_finite_windows_and_binary_codebook := hPre_finite_windows_and_binary_codebook)
-- ==== Pre_finite_windows_and_binary_codebook.lean ====
abbrev S32x8192x2x4 : Shape := ⟨4, ![32, 8192, 2, 4]⟩
abbrev S256x8 : Shape := ⟨2, ![256, 8]⟩
abbrev S_ : Shape := ⟨0, ![]⟩
abbrev S256 : Shape := ⟨1, ![256]⟩
abbrev S8 : Shape := ⟨1, ![8]⟩
abbrev S256x1 : Shape := ⟨2, ![256, 1]⟩
abbrev S1x8 : Shape := ⟨2, ![1, 8]⟩

class Facts : Prop where
  bcast_S_S32x8192x2x4 : S_.BroadcastsInDim S32x8192x2x4 (![] : Fin 0 → Fin S32x8192x2x4.rank)
  bcast_S256_S256x1_0 : S256.BroadcastsInDim S256x1 (![0] : Fin 1 → Fin S256x1.rank)
  bcast_S8_S1x8_1 : S8.BroadcastsInDim S1x8 (![1] : Fin 1 → Fin S1x8.rank)
  bcast_S256x1_S256x8_0_1 : S256x1.BroadcastsInDim S256x8 (![0, 1] : Fin 2 → Fin S256x8.rank)
  bcast_S1x8_S256x8_0_1 : S1x8.BroadcastsInDim S256x8 (![0, 1] : Fin 2 → Fin S256x8.rank)
  bcast_S_S256x8 : S_.BroadcastsInDim S256x8 (![] : Fin 0 → Fin S256x8.rank)

variable [Facts]

def fn {F : FTy → Type} [FloatOps F] (main_arg0 : FVec F S32x8192x2x4 .f32) (main_arg1 : FVec F S256x8 .f32) : IVec S32x8192x2x4 1 × IVec S256x8 1 :=
  let main_v0 : FVec F S32x8192x2x4 .f32 := Host.absf main_arg0
  let main_cst : FVec F S_ .f32 := constant S_ .f32 0x7F800000#32
  let main_v1 : FVec F S32x8192x2x4 .f32 := broadcastInDim S32x8192x2x4 ![] bcast_S_S32x8192x2x4 main_cst
  let main_v2 : IVec S32x8192x2x4 1 := cmpf .olt main_v0 main_v1
  let main_v3 : IVec S256 32 := iotaInDim S256 32 0
  let main_v4 : IVec S8 32 := iotaInDim S8 32 0
  let main_v5 : IVec S256x1 32 := broadcastInDim S256x1 ![0] bcast_S256_S256x1_0 main_v3
  let main_v6 : IVec S1x8 32 := broadcastInDim S1x8 ![1] bcast_S8_S1x8_1 main_v4
  let main_v7 : IVec S256x8 32 := broadcastInDim S256x8 ![0, 1] bcast_S256x1_S256x8_0_1 main_v5
  let main_v8 : IVec S256x8 32 := broadcastInDim S256x8 ![0, 1] bcast_S1x8_S256x8_0_1 main_v6
  let main_v9 : IVec S256x8 32 := Host.shrsi main_v7 main_v8
  let main_c : IVec S_ 32 := constantI S_ 32 1#32
  let main_v10 : IVec S256x8 32 := broadcastInDim S256x8 ![] bcast_S_S256x8 main_c
  let main_v11 : IVec S256x8 32 := andi main_v9 main_v10
  let main_v12 : FVec F S256x8 .f32 := sitofp .f32 main_v11
  let main_v13 : IVec S256x8 1 := cmpf .oeq main_arg1 main_v12
  (main_v2, main_v13)
-- ==== Kernel.lean ====
abbrev S32x8192x2x4 : Shape := ⟨4, ![32, 8192, 2, 4]⟩
abbrev S256x8 : Shape := ⟨2, ![256, 8]⟩
abbrev S262144x8 : Shape := ⟨2, ![262144, 8]⟩
abbrev S8x262144 : Shape := ⟨2, ![8, 262144]⟩
abbrev S8x1x32768 : Shape := ⟨3, ![8, 1, 32768]⟩
abbrev S8x32768 : Shape := ⟨2, ![8, 32768]⟩
abbrev S1x1x32768 : Shape := ⟨3, ![1, 1, 32768]⟩
abbrev S4x32768 : Shape := ⟨2, ![4, 32768]⟩
abbrev S2x32768 : Shape := ⟨2, ![2, 32768]⟩
abbrev S1x32768 : Shape := ⟨2, ![1, 32768]⟩
abbrev S8x1 : Shape := ⟨2, ![8, 1]⟩
abbrev S32x8192 : Shape := ⟨2, ![32, 8192]⟩

abbrev nBuf : Space → Nat
  | .hbm => 6
  | .vmem => 4
  | .smem => 0
  | _ => 0

abbrev bufTy : (tb : Table) → Fin (tcTables nBuf tb) → BufTy
  | .hbm, ⟨0, _⟩ => ⟨S32x8192x2x4, .f32⟩
  | .hbm, ⟨1, _⟩ => ⟨S256x8, .f32⟩
  | .hbm, ⟨2, _⟩ => ⟨S262144x8, .f32⟩
  | .hbm, ⟨3, _⟩ => ⟨S8x262144, .f32⟩
  | .hbm, ⟨4, _⟩ => ⟨S8x1x32768, .i32⟩
  | .hbm, ⟨5, _⟩ => ⟨S32x8192, .i32⟩
  | .local _ .vmem, ⟨0, _⟩ => ⟨S8x32768, .f32⟩
  | .local _ .vmem, ⟨1, _⟩ => ⟨S8x32768, .f32⟩
  | .local _ .vmem, ⟨2, _⟩ => ⟨S1x1x32768, .i32⟩
  | .local _ .vmem, ⟨3, _⟩ => ⟨S1x1x32768, .i32⟩
  | _, _ => ⟨S32x8192x2x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x32768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S32x8192x2x4 : Shape := ⟨4, ![32, 8192, 2, 4]⟩
abbrev S256x8 : Shape := ⟨2, ![256, 8]⟩
abbrev S262144x8 : Shape := ⟨2, ![262144, 8]⟩
abbrev S8x256 : Shape := ⟨2, ![8, 256]⟩
abbrev S_ : Shape := ⟨0, ![]⟩
abbrev S262144 : Shape := ⟨1, ![262144]⟩
abbrev S262144x1 : Shape := ⟨2, ![262144, 1]⟩
abbrev S262144x256 : Shape := ⟨2, ![262144, 256]⟩
abbrev S256 : Shape := ⟨1, ![256]⟩
abbrev S1x256 : Shape := ⟨2, ![1, 256]⟩
abbrev S32x8192 : Shape := ⟨2, ![32, 8192]⟩

abbrev nBuf : Space → Nat
  | .hbm => 27
  | .vmem => 0
  | .smem => 0
  | _ => 0

abbrev bufTy : (tb : Table) → Fin (tcTables nBuf tb) → BufTy
  | .hbm, ⟨0, _⟩ => ⟨S32x8192x2x4, .f32⟩
  | .hbm, ⟨1, _⟩ => ⟨S256x8, .f32⟩
  | .hbm, ⟨2, _⟩ => ⟨S262144x8, .f32⟩
  | .hbm, ⟨3, _⟩ => ⟨S8x256, .f32⟩
  | .hbm, ⟨4, _⟩ => ⟨S262144x8, .f32⟩
  | .hbm, ⟨5, _⟩ => ⟨S_, .f32⟩
  | .hbm, ⟨6, _⟩ => ⟨S262144, .f32⟩
  | .hbm, ⟨7, _⟩ => ⟨S262144x1, .f32⟩
  | .hbm, ⟨8, _⟩ => ⟨S262144x256, .f32⟩
  | .hbm, ⟨9, _⟩ => ⟨S_, .f32⟩
  | .hbm, ⟨10, _⟩ => ⟨S262144x256, .f32⟩
  | .hbm, ⟨11, _⟩ => ⟨S262144x256, .f32⟩
  | .hbm, ⟨12, _⟩ => ⟨S262144x256, .f32⟩
  | .hbm, ⟨13, _⟩ => ⟨S262144x256, .f32⟩
  | .hbm, ⟨14, _⟩ => ⟨S8x256, .f32⟩
  | .hbm, ⟨15, _⟩ => ⟨S_, .f32⟩
  | .hbm, ⟨16, _⟩ => ⟨S256, .f32⟩
  | .hbm, ⟨17, _⟩ => ⟨S1x256, .f32⟩
  | .hbm, ⟨18, _⟩ => ⟨S262144x256, .f32⟩
  | .hbm, ⟨19, _⟩ => ⟨S262144x256, .f32⟩
  | .hbm, ⟨20, _⟩ => ⟨S262144x256, .f32⟩
  | .hbm, ⟨21, _⟩ => ⟨S262144x256, .i32⟩
  | .hbm, ⟨22, _⟩ => ⟨S_, .f32⟩
  | .hbm, ⟨23, _⟩ => ⟨S_, .i32⟩
  | .hbm, ⟨24, _⟩ => ⟨S262144, .f32⟩
  | .hbm, ⟨25, _⟩ => ⟨S262144, .i32⟩
  | .hbm, ⟨26, _⟩ => ⟨S32x8192, .i32⟩
  | _, _ => ⟨S32x8192x2x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Proof.Digits.lean ====
/- The arithmetic of the problem, over the real numbers and apart from any program. A window is eight real numbers
   `r 0, …, r 7`; the codebook's vector number `k` is the eight binary digits of `k`. The code nearest to the window has a
   one exactly where `r j > 1/2`: among the codes at least distance it is the one with the smallest number, because a tie
   (`r j = 1/2`) is the only freedom and the smaller number has a zero there. -/
module

public import Mathlib.Data.Real.Basic
public import Mathlib.Algebra.BigOperators.Fin
public import Mathlib.Algebra.Order.BigOperators.Group.Finset
public import Mathlib.Data.Fintype.Pi
public import Mathlib.Tactic.Linarith
public import Mathlib.Tactic.Ring
public import Mathlib.Tactic.Positivity

@[expose] public section

noncomputable section

namespace Cert.Digits

/-- The number whose binary digit `j` is one exactly where the window exceeds one half. -/
def code (r : Fin 8 → ℝ) : ℕ := ∑ j : Fin 8, if 1 / 2 < r j then 2 ^ (j : ℕ) else 0

/-- Binary digit `j` of `k`. -/
def bit (k : ℕ) (j : Fin 8) : ℕ := k / 2 ^ (j : ℕ) % 2

/-- The squared distance from the window to code `k`, expanded: `Σ r² − 2 Σ r·d + Σ d²` for the digits `d` of `k`. -/
def dist (r : Fin 8 → ℝ) (k : ℕ) : ℝ :=
  ∑ j, r j * r j - 2 * ∑ j, r j * (bit k j : ℝ) + ∑ j, (bit k j : ℝ) * (bit k j : ℝ)

/-- What the digits of `k` save of the squared distance. -/
def gain (r : Fin 8 → ℝ) (k : ℕ) : ℝ := ∑ j, (bit k j : ℝ) * (2 * r j - 1)

theorem bit_eq_zero_or_one (k : ℕ) (j : Fin 8) : bit k j = 0 ∨ bit k j = 1 := Nat.mod_two_eq_zero_or_one _

/-- A number below 256 is the sum of its eight digits' powers of two. -/
theorem sum_bit (k : Fin 256) : ∑ j : Fin 8, bit k j * 2 ^ (j : ℕ) = k := by
  revert k; unfold bit; decide +kernel

/-- Eight digits add up to less than 256, and reading the digits of the sum gives them back. -/
private theorem digits_read (b : Fin 8 → Bool) :
    (∑ j : Fin 8, if b j then 2 ^ (j : ℕ) else 0) < 256 ∧
      ∀ j, bit (∑ j : Fin 8, if b j then 2 ^ (j : ℕ) else 0) j = if b j then 1 else 0 := by
  revert b; unfold bit; decide +kernel

private theorem code_eq (r : Fin 8 → ℝ) [∀ j, Decidable (1 / 2 < r j)] :
    code r = ∑ j : Fin 8, if (decide (1 / 2 < r j) : Bool) then 2 ^ (j : ℕ) else 0 := by
  unfold code
  refine Finset.sum_congr rfl fun j _ => ?_
  by_cases h : 1 / 2 < r j <;> simp [h]

theorem code_lt (r : Fin 8 → ℝ) : code r < 256 := by
  classical
  rw [code_eq]; exact (digits_read fun j => decide (1 / 2 < r j)).1

theorem bit_code (r : Fin 8 → ℝ) (j : Fin 8) : bit (code r) j = if 1 / 2 < r j then 1 else 0 := by
  classical
  rw [code_eq, (digits_read fun j => decide (1 / 2 < r j)).2 j]
  by_cases h : 1 / 2 < r j <;> simp [h]

/-- A digit is its own square, so the distance is `Σ r²` less the gain. -/
theorem neg_dist (r : Fin 8 → ℝ) (k : ℕ) : -dist r k = gain r k - ∑ j, r j * r j := by
  unfold dist gain
  have h : ∑ j, (bit k j : ℝ) * (2 * r j - 1)
      = 2 * ∑ j, r j * (bit k j : ℝ) - ∑ j, (bit k j : ℝ) * (bit k j : ℝ) := by
    rw [Finset.mul_sum, ← Finset.sum_sub_distrib]
    refine Finset.sum_congr rfl fun j _ => ?_
    rcases bit_eq_zero_or_one k j with h | h <;> simp only [h] <;> push_cast <;> ring
  rw [h]; ring

/-- Digit by digit, no code gains more than the window's own. -/
theorem term_le (r : Fin 8 → ℝ) (k : ℕ) (j : Fin 8) :
    (bit k j : ℝ) * (2 * r j - 1) ≤ (bit (code r) j : ℝ) * (2 * r j - 1) := by
  rw [bit_code]
  rcases bit_eq_zero_or_one k j with h | h <;> by_cases hr : 1 / 2 < r j <;> simp only [h, hr, if_true, if_false] <;>
    push_cast <;> linarith

theorem gain_le (r : Fin 8 → ℝ) (k : ℕ) : gain r k ≤ gain r (code r) :=
  Finset.sum_le_sum fun j _ => term_le r k j

/-- A code that gains as much has every digit of the window's code, so its number is no smaller. -/
theorem code_le_of_gain_eq (r : Fin 8 → ℝ) (k : Fin 256) (h : gain r k = gain r (code r)) : code r ≤ k := by
  have each := (Finset.sum_eq_sum_iff_of_le fun j _ => term_le r k j).mp h
  rw [← sum_bit k]
  unfold code
  refine Finset.sum_le_sum fun j hj => ?_
  by_cases hr : 1 / 2 < r j
  · have e := each j hj
    rw [bit_code, if_pos hr] at e
    rcases bit_eq_zero_or_one k j with h0 | h1
    · rw [h0] at e; push_cast at e; linarith
    · rw [if_pos hr, h1, one_mul]
  · rw [if_neg hr]; exact Nat.zero_le _

/-- The window's code is at least distance. -/
theorem neg_dist_le (r : Fin 8 → ℝ) (k : ℕ) : -dist r k ≤ -dist r (code r) := by
  rw [neg_dist, neg_dist]; linarith [gain_le r k]

/-- And the first of those at least distance. -/
theorem code_le_of_neg_dist_eq (r : Fin 8 → ℝ) (k : Fin 256) (h : -dist r k = -dist r (code r)) : code r ≤ k := by
  rw [neg_dist, neg_dist] at h
  exact code_le_of_gain_eq r k (by linarith)

end Cert.Digits

end
-- ==== Proof.Constants.lean ====
/- The values of the float literals that the two programs and the precondition name. -/
module

public import Idealize.ShloMosaic.Lib.IdealHost

@[expose] public section

namespace Cert.Constants

open Idealize.ShloMosaic

/-- `0x3F000000` is one half. -/
theorem half : Ideal.ofBits .f32 0x3F000000#32 = ((1 / 2 : ℝ) : EReal) := by
  simp [Ideal.ofBits, Ideal.ieee, -EReal.coe_mul]; norm_num

/-- `0x40000000` is two. -/
theorem two : Ideal.ofBits .f32 0x40000000#32 = ((2 : ℝ) : EReal) := by
  simp [Ideal.ofBits, Ideal.ieee, -EReal.coe_mul]; norm_num

/-- `0x40400000` is three. -/
theorem three : Ideal.ofBits .f32 0x40400000#32 = ((3 : ℝ) : EReal) := by
  simp [Ideal.ofBits, Ideal.ieee, -EReal.coe_mul]; norm_num

/-- `0x7F800000` is plus infinity. -/
theorem inf : Ideal.ofBits .f32 0x7F800000#32 = (⊤ : EReal) := by
  simp [Ideal.ofBits, Ideal.ieee]

/-- `0xFF800000` is minus infinity. -/
theorem neg_inf : Ideal.ofBits .f32 0xFF800000#32 = (⊥ : EReal) := by
  simp [Ideal.ofBits, Ideal.ieee]

end Cert.Constants
-- ==== Proof.Body.lean ====
/- What the kernel's body writes in one lane. Lane `l` of the block holds a window, its eight numbers down the rows. Over the
   real numbers the body's four candidate scores `(a − (2b + k)) + (c + k)` are one number, so no candidate beats the first
   and the number of ties to set is zero; no rank is below zero, so no tie is set, and the lane's word is the window's code. -/
module

public import proofs.«01_k».proof.Proof.Gen.KernelIdeal.Skeleton
public import proofs.«01_k».proof.Proof.Digits
public import proofs.«01_k».proof.Proof.Constants
public import Idealize.ShloMosaic.Lib.Pointwise

@[expose] public section

noncomputable section

namespace Cert.KernelIdeal.Value

open Idealize.ShloMosaic Cert.KernelIdeal Cert.KernelIdeal.Gen

/-- The digit of a lane's row: one where the number exceeds one half. -/
theorem mask_apply (x : Vec Ideal S8x32768 .f32) (j : Fin 8) (l : Fin 32768) :
    k0_pay4 x (ix2 j l) = BitVec.ofBool (decide (((1 / 2 : ℝ) : EReal) < x (ix2 j l))) := by
  unfold k0_pay4 k0_pay3 k0_pay2
  pointwise
  rw [Constants.half]

/-- A lane's tie indicators are not negative. -/
theorem tie_nonneg (x : Vec Ideal S8x32768 .f32) (j : Fin 8) (l : Fin 32768) : (0 : EReal) ≤ k0_pay9 x (ix2 j l) := by
  unfold k0_pay9
  pointwise
  unfold Scalar.select
  split
  · exact zero_le_one
  · exact le_refl _

/-- The sum of a lane's squares is a real number. -/
theorem squares_real (x : Vec Ideal S8x32768 .f32) (l : Fin 32768) (r : Fin 8 → ℝ)
    (hx : ∀ j, x (ix2 j l) = ((r j : ℝ) : EReal)) : ∃ a : ℝ, k0_pay6 x (ix2 0 l) = (a : EReal) := by
  unfold k0_pay6 k0_pay2
  pointwise
  simp only [hx, ← EReal.coe_mul, ← EReal.coe_add]
  exact ⟨_, rfl⟩

/-- A number where a condition holds, and zero elsewhere, is a real number. -/
private theorem ite_real (p : Prop) [Decidable p] (a : ℝ) : (if p then (a : EReal) else 0) = ((if p then a else 0 : ℝ) : EReal) := by
  split <;> simp

/-- The sum of a lane's numbers above one half is a real number. -/
theorem over_real (x : Vec Ideal S8x32768 .f32) (l : Fin 32768) (r : Fin 8 → ℝ)
    (hx : ∀ j, x (ix2 j l) = ((r j : ℝ) : EReal)) : ∃ a : ℝ, k0_pay7 x (ix2 0 l) = (a : EReal) := by
  unfold k0_pay7 k0_pay4 k0_pay3 k0_pay2
  pointwise
  simp only [hx, ite_real, ← EReal.coe_mul, ← EReal.coe_add]
  exact ⟨_, rfl⟩

/-- The count of a lane's numbers above one half is a real number. -/
theorem count_real (x : Vec Ideal S8x32768 .f32) (l : Fin 32768) : ∃ a : ℝ, k0_pay8 x (ix2 0 l) = (a : EReal) := by
  unfold k0_pay8 k0_pay4 k0_pay3 k0_pay2
  pointwise
  simp only [← EReal.coe_one, ite_real, ← EReal.coe_mul, ← EReal.coe_add]
  exact ⟨_, rfl⟩

/-- Adding `k` on both sides of a difference of real numbers changes nothing. -/
theorem shift_eq (a b c k : ℝ) :
    ((a : EReal) - ((b : EReal) + (b : EReal) + (k : EReal)) + ((c : EReal) + (k : EReal)))
      = (a : EReal) - ((b : EReal) + (b : EReal)) + (c : EReal) := by
  simp only [← EReal.coe_add, ← EReal.coe_sub]
  congr 1
  ring

/-- The number of ties to set is zero: no candidate score is below the first. -/
theorem kstar_zero (A B C : FVec Ideal S1x32768 .f32) (T : FVec Ideal S2x32768 .f32) (l : Fin 32768)
    (hA : ∃ a : ℝ, A (ix2 0 l) = (a : EReal)) (hB : ∃ b : ℝ, B (ix2 0 l) = (b : EReal))
    (hC : ∃ c : ℝ, C (ix2 0 l) = (c : EReal)) : k0_pay11 A B C T (ix2 0 l) = 0 := by
  obtain ⟨a, ha⟩ := hA
  obtain ⟨b, hb⟩ := hB
  obtain ⟨c, hc⟩ := hC
  unfold k0_pay11
  pointwise
  have h1 := shift_eq a b c 1
  rw [EReal.coe_one] at h1
  have hs (X Y : EReal) (p : BitVec 1) : Scalar.select (IntOp.andi (BitVec.ofBool false) p) X Y = Y := by
    simp [Scalar.select, IntOp.andi]
  simp only [Constants.two, Constants.three, ha, hb, hc, h1, shift_eq, lt_self_iff_false, decide_false, hs]

/-! A digit's word times its row's power of two, row by row. -/

private theorem digit_word_0 (p : Fin 8 → Prop) [∀ j, Decidable (p j)] :
    IntOp.muli (BitVec.setWidth 32 (BitVec.ofBool (decide (p 0)))) (IntOp.shli .vector 1#32 0#32)
      = BitVec.ofNat 32 (if p 0 then 2 ^ ((0 : Fin 8) : ℕ) else 0) := by
  by_cases h : p 0 <;> simp only [h, decide_true, decide_false, if_true, if_false] <;> decide

private theorem digit_word_1 (p : Fin 8 → Prop) [∀ j, Decidable (p j)] :
    IntOp.muli (BitVec.setWidth 32 (BitVec.ofBool (decide (p 1)))) (IntOp.shli .vector 1#32 1#32)
      = BitVec.ofNat 32 (if p 1 then 2 ^ ((1 : Fin 8) : ℕ) else 0) := by
  by_cases h : p 1 <;> simp only [h, decide_true, decide_false, if_true, if_false] <;> decide

private theorem digit_word_2 (p : Fin 8 → Prop) [∀ j, Decidable (p j)] :
    IntOp.muli (BitVec.setWidth 32 (BitVec.ofBool (decide (p 2)))) (IntOp.shli .vector 1#32 2#32)
      = BitVec.ofNat 32 (if p 2 then 2 ^ ((2 : Fin 8) : ℕ) else 0) := by
  by_cases h : p 2 <;> simp only [h, decide_true, decide_false, if_true, if_false] <;> decide

private theorem digit_word_3 (p : Fin 8 → Prop) [∀ j, Decidable (p j)] :
    IntOp.muli (BitVec.setWidth 32 (BitVec.ofBool (decide (p 3)))) (IntOp.shli .vector 1#32 3#32)
      = BitVec.ofNat 32 (if p 3 then 2 ^ ((3 : Fin 8) : ℕ) else 0) := by
  by_cases h : p 3 <;> simp only [h, decide_true, decide_false, if_true, if_false] <;> decide

private theorem digit_word_4 (p : Fin 8 → Prop) [∀ j, Decidable (p j)] :
    IntOp.muli (BitVec.setWidth 32 (BitVec.ofBool (decide (p 4)))) (IntOp.shli .vector 1#32 4#32)
      = BitVec.ofNat 32 (if p 4 then 2 ^ ((4 : Fin 8) : ℕ) else 0) := by
  by_cases h : p 4 <;> simp only [h, decide_true, decide_false, if_true, if_false] <;> decide

private theorem digit_word_5 (p : Fin 8 → Prop) [∀ j, Decidable (p j)] :
    IntOp.muli (BitVec.setWidth 32 (BitVec.ofBool (decide (p 5)))) (IntOp.shli .vector 1#32 5#32)
      = BitVec.ofNat 32 (if p 5 then 2 ^ ((5 : Fin 8) : ℕ) else 0) := by
  by_cases h : p 5 <;> simp only [h, decide_true, decide_false, if_true, if_false] <;> decide

private theorem digit_word_6 (p : Fin 8 → Prop) [∀ j, Decidable (p j)] :
    IntOp.muli (BitVec.setWidth 32 (BitVec.ofBool (decide (p 6)))) (IntOp.shli .vector 1#32 6#32)
      = BitVec.ofNat 32 (if p 6 then 2 ^ ((6 : Fin 8) : ℕ) else 0) := by
  by_cases h : p 6 <;> simp only [h, decide_true, decide_false, if_true, if_false] <;> decide

private theorem digit_word_7 (p : Fin 8 → Prop) [∀ j, Decidable (p j)] :
    IntOp.muli (BitVec.setWidth 32 (BitVec.ofBool (decide (p 7)))) (IntOp.shli .vector 1#32 7#32)
      = BitVec.ofNat 32 (if p 7 then 2 ^ ((7 : Fin 8) : ℕ) else 0) := by
  by_cases h : p 7 <;> simp only [h, decide_true, decide_false, if_true, if_false] <;> decide

/-- No rank is below zero: with nothing to set and no rank negative, the word is the sum of the digits' powers. -/
theorem word_of_mask (b v7 : IVec S8x32768 1) (T : FVec Ideal S8x32768 .f32) (K : FVec Ideal S1x32768 .f32) (l : Fin 32768)
    (hT : ∀ j, (0 : EReal) ≤ T (ix2 j l)) (hK : K (ix2 0 l) = 0) (p : Fin 8 → Prop) [∀ j, Decidable (p j)]
    (hb : ∀ j, b (ix2 j l) = BitVec.ofBool (decide (p j))) :
    k0_pay1 b v7 T K k0_pay12 (ix3 0 0 l) = BitVec.ofNat 32 (∑ j : Fin 8, if p j then 2 ^ (j : ℕ) else 0) := by
  have hz : (k0_pay12 (F := Ideal)) (ix2 0 l) = 0 := by unfold k0_pay12; pointwise
  unfold k0_pay1
  pointwise
  have n0 := hT 0
  have n1 := add_nonneg n0 (hT 1)
  have n2 := add_nonneg n1 (hT 2)
  have n3 := add_nonneg n2 (hT 3)
  have n4 := add_nonneg n3 (hT 4)
  have n5 := add_nonneg n4 (hT 5)
  have n6 := add_nonneg n5 (hT 6)
  have hs (c e : BitVec 1) : IntOp.ori c (IntOp.andi e (BitVec.ofBool false)) = c := by
    simp [IntOp.ori, IntOp.andi]
  simp only [hz, hK, zero_add, not_lt.mpr n0, not_lt.mpr n1, not_lt.mpr n2, not_lt.mpr n3, not_lt.mpr n4, not_lt.mpr n5,
    not_lt.mpr n6, lt_self_iff_false, decide_false, hs, hb]
  simp only [digit_word_0, digit_word_1, digit_word_2, digit_word_3, digit_word_4, digit_word_5, digit_word_6, digit_word_7,
    IntOp.addi, ← BitVec.ofNat_add]
  congr 1
  rw [Fin.sum_univ_eight]
  ac_rfl

/-- One lane of the block the body leaves: the code of the window in that lane. -/
theorem block_apply (x : Vec Ideal S8x32768 .f32) (l : Fin 32768) (r : Fin 8 → ℝ)
    (hx : ∀ j, x (ix2 j l) = ((r j : ℝ) : EReal)) :
    k0_pay1 (k0_pay4 x) (k0_pay5 x) (k0_pay9 x) (k0_pay11 (k0_pay6 x) (k0_pay7 x) (k0_pay8 x) (k0_pay10 x)) k0_pay12 (ix3 0 0 l)
      = BitVec.ofNat 32 (Digits.code r) := by
  classical
  refine word_of_mask _ _ _ _ l (fun j => tie_nonneg x j l)
    (kstar_zero _ _ _ _ l (squares_real x l r hx) (over_real x l r hx) (count_real x l)) (fun j => 1 / 2 < r j) fun j => ?_
  rw [mask_apply, hx j]
  simp only [EReal.coe_lt_coe_iff]

end Cert.KernelIdeal.Value

end
-- ==== Proof.KernelValue.lean ====
/- What the kernel's result array holds after the run. The region reads the windows transposed, eight rows of 262144 lanes,
   in eight blocks of 32768 lanes; block `t` of the result, lane `l`, ends holding the code of window `32768 t + l`. -/
module

public import proofs.«01_k».proof.Proof.Gen.KernelIdeal.Frame
public import proofs.«01_k».proof.Proof.Body
public import Idealize.ShloMosaic.Lib.Pipeline.ValueKit

@[expose] public section

set_option maxRecDepth 16384

noncomputable section

namespace Cert.KernelIdeal.Value

open Idealize.ShloMosaic Idealize.ShloMosaic.TcCoe Idealize.SL.Sem Cert.KernelIdeal Cert.KernelIdeal.Gen

variable (m : (ℓ : Loc nD τ sig) → Buf (Elt Ideal) ℓ)

/-- The windows as rows: 262144 rows of eight numbers, the first argument in row-major order. -/
def windows (A : FVec Ideal S32x8192x2x4 .f32) : FVec Ideal S262144x8 .f32 :=
  shapeCast S262144x8 A shapeCasts_S32x8192x2x4_S262144x8

/-- The number of window `32768 t + l`. -/
def laneWindow (t : Fin 8) (l : Fin 32768) : Fin 262144 := ⟨t.val * 32768 + l.val, by omega⟩

/-- The result array's words: at block `t` and lane `l` the code of window `32768 t + l`. -/
def codes (A : FVec Ideal S32x8192x2x4 .f32) : IVec S8x1x32768 32 := fun i =>
  BitVec.ofNat 32 (Digits.code fun j => (windows A (ix2 (laneWindow (i 0) (i 2)) j)).toReal)

/-- The region's operand is the windows transposed. -/
theorem operand_eq (c : Dev nD) :
    V m c main_v1 = transpose S8x262144 [1, 0] (windows (m ((c.tc : Thread nD τ).loc main_arg0))) transposes_S262144x8_S8x262144_1_0 := by
  entry_read
  rfl

/-- Row `j`, lane `n` of the operand: number `j` of window `n`. -/
theorem operand_apply (c : Dev nD) (j : Fin 8) (n : Fin 262144) :
    V m c main_v1 (ix2 j n) = windows (m ((c.tc : Thread nD τ).loc main_arg0)) (ix2 n j) := by
  rw [operand_eq]
  pointwise

/-- Block `t` of the region's operand, row `j` and lane `l`: number `j` of window `32768 t + l`. -/
theorem iblk_apply (c : Dev nD) (t : Fin cfg0.N) (j : Fin 8) (l : Fin 32768) :
    iblk m c 0 t (ix2 j l) = windows (m ((c.tc : Thread nD τ).loc main_arg0)) (ix2 (laneWindow t l) j) := by
  have idx : ∀ t : Fin cfg0.N, (cfg0.win 0).index t 0 = 0 ∧ (cfg0.win 0).index t 1 = t.val := by decide +kernel
  rw [← operand_apply m c]
  refine congrArg (V m c main_v1) ?_
  blk_ext [laneWindow, idx t]

/-- Every number being real, the result array ends holding the windows' codes. -/
theorem final (c : Dev nD) (hA : ∀ i, ∃ r : ℝ, windows (m ((c.tc : Thread nD τ).loc main_arg0)) i = (r : EReal)) :
    (dats m 0 c).arrAt 1 cfg0.N = codes (m ((c.tc : Thread nD τ).loc main_arg0)) := by
  refine (dats m 0 c).arrAt_eq_of_covers 1 _ (by decide +kernel) fun t hf y => ?_
  blk_simp
  rw [after0_1]
  frame_out
  idx_vars y
  obtain rfl : y0 = 0 := Subsingleton.elim _ _
  obtain rfl : y1 = 0 := Subsingleton.elim _ _
  have idx : ∀ t : Fin cfg0.N, (cfg0.win 1).index t 0 = t.val ∧ (cfg0.win 1).index t 1 = 0 ∧ (cfg0.win 1).index t 2 = 0 := by
    decide +kernel
  have place : ((View.whole main_v2).slice (win0_1.rect t)).emb (ix3 0 0 y2) = ix3 (t : Fin 8) 0 y2 := by
    blk_ext [idx t]
  rw [place]
  refine block_apply (iblk m c 0 t) y2 (fun j => (windows (m ((c.tc : Thread nD τ).loc main_arg0)) (ix2 (laneWindow t y2) j)).toReal)
    fun j => ?_
  rw [iblk_apply]
  obtain ⟨r, hr⟩ := hA (ix2 (laneWindow t y2) j)
  rw [hr, EReal.toReal_coe]

end Cert.KernelIdeal.Value

end
-- ==== Proof.KernelRun.lean ====
/- The kernel's run: its result holds the codes of its windows, its arguments unchanged. -/
module

public import proofs.«01_k».proof.Proof.KernelValue
public import Idealize.ShloMosaic.Lib.Claim

@[expose] public section

noncomputable section

namespace Cert.KernelIdeal.Value

open Idealize.ShloMosaic Idealize.ShloMosaic.TcCoe Idealize.SL.Sem Cert.KernelIdeal Cert.KernelIdeal.Gen

variable (m : (ℓ : Loc nD τ sig) → Buf (Elt Ideal) ℓ) (g : Dev nD → PrngReg)

/-- The kernel's result: the codes in row-major order. -/
def result (A : FVec Ideal S32x8192x2x4 .f32) : IVec S32x8192 32 :=
  shapeCast S32x8192 (codes A) shapeCasts_S8x1x32768_S32x8192

/-- The line after the region reshapes the region's result array. -/
private theorem tail_eq (c : Dev nD) (hA : ∀ i, ∃ r : ℝ, windows (m ((c.tc : Thread nD τ).loc main_arg0)) i = (r : EReal)) :
    Pipeline.afterTail₀ cfgs (dats m) 0 (V0 m) [hostOps1] c main_v3 = result (m ((c.tc : Thread nD τ).loc main_arg0)) := by
  unfold Pipeline.afterTail₀
  simp only [hostOps1, List.flatten_cons, List.flatten_nil, List.append_nil]
  after_results
  rw [Pipeline.withArrays_arr spec0 (by decide) c (V0 m c) _ 1]
  unfold result
  rw [← final m c hA]
  generalize (dats m 0 c).arrAt 1 cfg0.N = V
  rfl

/-- Every number being real, the kernel runs to its result, its arguments unchanged. -/
theorem run (hA : ∀ (c : Dev nD) i, ∃ r : ℝ, windows (m ((c.tc : Thread nD τ).loc main_arg0)) i = (r : EReal)) :
    θ_run (defs (F := Ideal)) (onTc (τ := τ) (main (F := Ideal))) ⟨m, fun _ => 0, g⟩ (fun r => ∀ c : Dev nD,
      r.2.mem ((c.tc : Thread nD τ).loc main_v3) = result (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from Cert.KernelIdeal.Gen.run_main m g
  · exact tail_eq m c (hA c)
  · exact W_main_arg0 m (dats m) c
  · exact W_main_arg1 m (dats m) c

end Cert.KernelIdeal.Value

end
-- ==== Proof.ReferenceRun.lean ====
/- The reference's run: what its result buffer holds, as one expression in its two arguments. -/
module

public import proofs.«01_k».proof.Proof.Gen.ReferenceIdeal
public import Idealize.ShloMosaic.Lib.Claim
public import Idealize.ShloMosaic.PureOps.Ideal.Laws
public import Idealize.ShloMosaic.Lib.Quiescent

@[expose] public section

noncomputable section

namespace Cert.ReferenceIdeal.Value

open Idealize.ShloMosaic Idealize.SL.Sem Cert.ReferenceIdeal Cert.ReferenceIdeal.Facts₀

/-- The windows as rows: 262144 rows of eight numbers, the first argument in row-major order. -/
def windows (A : FVec Ideal S32x8192x2x4 .f32) : FVec Ideal S262144x8 .f32 :=
  shapeCast S262144x8 A shapeCasts_S32x8192x2x4_S262144x8

/-- The codebook transposed, one column per code. -/
def columns (E : FVec Ideal S256x8 .f32) : FVec Ideal S8x256 .f32 :=
  transpose S8x256 [1, 0] E transposes_S256x8_S8x256_1_0

/-- Each window's sum of squares, along its row of scores. -/
def windowSquares (X : FVec Ideal S262144x8 .f32) : FVec Ideal S262144x256 .f32 :=
  broadcastInDim S262144x256 ![0, 1] bcast_S262144x1_S262144x256_0_1
    (broadcastInDim S262144x1 ![0] bcast_S262144_S262144x1_0
      (Host.reduceAdd (mulf X X) (constant S_ .f32 0x00000000#32) reducesTo_S262144x8_S262144_d1 h_S_))

/-- Twice the products of the windows with the codes. -/
def products (X : FVec Ideal S262144x8 .f32) (T : FVec Ideal S8x256 .f32) : FVec Ideal S262144x256 .f32 :=
  mulf (broadcastInDim S262144x256 ![] bcast_S_S262144x256 (constant S_ .f32 0x40000000#32))
    (Host.dotGeneral dot_S262144x8_S8x256_S262144x256_1_0_0_1_n_n none X T)

/-- Each code's sum of squares, down its column of scores. -/
def codeSquares (T : FVec Ideal S8x256 .f32) : FVec Ideal S262144x256 .f32 :=
  broadcastInDim S262144x256 ![0, 1] bcast_S1x256_S262144x256_0_1
    (broadcastInDim S1x256 ![1] bcast_S256_S1x256_1
      (Host.reduceAdd (mulf T T) (constant S_ .f32 0x00000000#32) reducesTo_S8x256_S256_d0 h_S_))

/-- The scores: the negated squared distances of the windows to the codes. -/
def scores (X : FVec Ideal S262144x8 .f32) (T : FVec Ideal S8x256 .f32) : FVec Ideal S262144x256 .f32 :=
  Host.negf (addf (subf (windowSquares X) (products X T)) (codeSquares T))

/-- Each row's largest score with its position. -/
def pairs (S : FVec Ideal S262144x256 .f32) : S262144.Idx → Ideal .f32 × BitVec 32 :=
  Host.argReduce reducer_argmax_f32_i32 S (iotaInDim S262144x256 32 1) (constant (F := Ideal) S_ .f32 0xFF800000#32) (constantI S_ 32 0#32)
    reducesTo_S262144x256_S262144_d1 h_S_

/-- Each row's position of its largest score. -/
def positions (S : FVec Ideal S262144x256 .f32) : IVec S262144 32 := fun n => (pairs S n).2

/-- The reference's result. -/
def result (A : FVec Ideal S32x8192x2x4 .f32) (E : FVec Ideal S256x8 .f32) : IVec S32x8192 32 :=
  shapeCast S32x8192 (positions (scores (windows A) (columns E))) shapeCasts_S262144_S32x8192

/-- The scores as the function that finds their positions receives them: the buffer's contents unchanged. -/
private theorem argument_contents (v : FVec Ideal S262144x256 .f32) :
    (StableHlo.TRef.of main_v15 : StableHlo.TRef sig ⟨S262144x256, .f32⟩).ofBuf (Val := Elt Ideal) v = v := rfl

/-- The positions as that function returns them: the buffer's contents unchanged. -/
private theorem result_contents (v : IVec S262144 32) :
    (StableHlo.TRef.of main_v16 : StableHlo.TRef sig ⟨S262144, .i32⟩).toBuf (Val := Elt Ideal) v = v := rfl

/-- The first reshape, read element by element, is `windows`. -/
private theorem first_reshape (A : FVec Ideal main_arg0.ty.shape .f32) (h) :
    (fun i => shapeCast main_v0.ty.shape A h i) = windows A := rfl

/-- The last reshape, read element by element, is a reshape to 32x8192. -/
private theorem last_reshape (V : IVec S262144 32) (h) :
    (fun i => shapeCast main_v17.ty.shape V h i) = shapeCast S32x8192 V shapeCasts_S262144_S32x8192 := rfl

variable (m : (ℓ : Loc nD τ sig) → Buf (Elt Ideal) ℓ) (g : Dev nD → PrngReg)

/-- The reference runs to its result, its arguments unchanged. -/
theorem run : θ_run (defs (F := Ideal)) (onTc (τ := τ) (main (F := Ideal))) ⟨m, fun _ => 0, g⟩ (fun r => ∀ c : Dev nD,
      r.2.mem ((c.tc : Thread nD τ).loc main_v17) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  simp only [StableHlo.TRef.ofBuf_toBuf]
  rw [argument_contents, result_contents, first_reshape]
  refine (last_reshape _ _).trans ?_
  unfold result positions pairs scores windowSquares products codeSquares columns
  with_reducible rfl

/-- The reference leaves its arguments and its counters alone: it declares no semaphore. -/
theorem frame : θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run (defs (F := Ideal)) _ _).mono (fun r h => ⟨fun c => (h c).2, sem_eq_zero_of_no_sems (by decide) r.2⟩) (run m g)

end Cert.ReferenceIdeal.Value

end
-- ==== Proof.ArgFold.lean ====
/- What the reference's reduction to the largest score leaves. The reduction combines pairs (score, position) two at a time
   and keeps the larger score, the smaller position among equal scores. If one pair of the list is ahead of every other and
   of the starting pair in that order, the whole fold is that pair. -/
module

public import proofs.«01_k».proof.Proof.Gen.ReferenceIdeal
public import Idealize.ShloMosaic.Lib.Pointwise

@[expose] public section

noncomputable section

namespace Cert.ReferenceIdeal.Value

open Idealize.ShloMosaic Cert.ReferenceIdeal

/-- `q` is not ahead of `p`: its score is smaller, or the scores are equal and its position is no smaller. -/
def Behind (p q : Ideal .f32 × BitVec 32) : Prop := q.1 < p.1 ∨ q.1 = p.1 ∧ p.2.toInt ≤ q.2.toInt

/-- The reduction's step with its word operations read: the larger score, and the position of the pair that is ahead. -/
theorem reducer_eq (a b : Ideal .f32 × BitVec 32) :
    reducer_argmax_f32_i32 a b
      = (if b.1 < a.1 then a.1 else b.1, if b.1 < a.1 ∨ a.1 = b.1 ∧ a.2.toInt < b.2.toInt then a.2 else b.2) := by
  unfold reducer_argmax_f32_i32
  pointwise
  have hslt : IntOp.cmpi .slt a.2 b.2 = BitVec.ofBool (decide (a.2.toInt < b.2.toInt)) := rfl
  rw [hslt]
  by_cases h1 : b.1 < a.1 <;> by_cases h2 : a.1 = b.1 <;> by_cases h3 : a.2.toInt < b.2.toInt <;>
    simp [h1, h2, h3, Scalar.select, IntOp.ori, IntOp.andi]

/-- From a pair that `p` is ahead of, the step with `p` keeps `p`. -/
theorem reducer_behind_left (p a : Ideal .f32 × BitVec 32) (h : Behind p a) : reducer_argmax_f32_i32 a p = p := by
  rw [reducer_eq]
  rcases h with h | ⟨h, hi⟩
  · have hn : ¬ p.1 < a.1 := not_lt.mpr h.le
    have hne : ¬ a.1 = p.1 := h.ne
    simp [hn, hne]
  · have hn : ¬ a.2.toInt < p.2.toInt := not_lt.mpr hi
    simp [h, hn]

/-- The step of `p` with a pair that it is ahead of keeps `p`. -/
theorem reducer_behind_right (p b : Ideal .f32 × BitVec 32) (h : Behind p b) : reducer_argmax_f32_i32 p b = p := by
  rw [reducer_eq]
  rcases h with h | ⟨h, hi⟩
  · simp [h]
  · rcases hi.lt_or_eq with hi | hi
    · simp [h, hi]
    · have : p.2 = b.2 := BitVec.eq_of_toInt_eq hi
      refine Prod.ext ?_ ?_ <;> simp [h, this]

/-- Two pairs that `p` is ahead of combine to one that `p` is ahead of. -/
theorem reducer_behind (p a b : Ideal .f32 × BitVec 32) (ha : Behind p a) (hb : Behind p b) :
    Behind p (reducer_argmax_f32_i32 a b) := by
  rw [reducer_eq]
  by_cases h1 : b.1 < a.1
  · simpa [h1] using ha
  · by_cases h2 : a.1 = b.1 ∧ a.2.toInt < b.2.toInt
    · have hlt : ¬ b.1 < b.1 := lt_irrefl _
      rcases ha with ha | ha
      · exact .inl (by simpa [h1, h2.1] using h2.1 ▸ ha)
      · refine .inr ⟨?_, ?_⟩
        · simpa [h1] using h2.1 ▸ ha.1
        · simpa [h1, h2] using ha.2
    · simpa [h1, h2] using hb

/-- Once the fold holds `p` it keeps it. -/
theorem foldl_keeps (p : Ideal .f32 × BitVec 32) (L : List (Ideal .f32 × BitVec 32)) (h : ∀ q ∈ L, Behind p q) :
    L.foldl reducer_argmax_f32_i32 p = p := by
  induction L with
  | nil => rfl
  | cons q L ih =>
    rw [List.foldl_cons, reducer_behind_right p q (h q List.mem_cons_self)]
    exact ih fun x hx => h x (List.mem_cons_of_mem _ hx)

/-- The fold over a list that contains `p`, started behind `p` and with every pair behind `p`, is `p`. -/
theorem foldl_eq (p : Ideal .f32 × BitVec 32) (L : List (Ideal .f32 × BitVec 32)) (hp : p ∈ L) (h : ∀ q ∈ L, Behind p q)
    (a : Ideal .f32 × BitVec 32) (ha : Behind p a) : L.foldl reducer_argmax_f32_i32 a = p := by
  induction L generalizing a with
  | nil => exact absurd hp List.not_mem_nil
  | cons q L ih =>
    have hL : ∀ x ∈ L, Behind p x := fun x hx => h x (List.mem_cons_of_mem _ hx)
    rw [List.foldl_cons]
    rcases List.mem_cons.mp hp with rfl | hp
    · rw [reducer_behind_left p a ha]; exact foldl_keeps p L hL
    · exact ih hp hL _ (reducer_behind p a q ha (h q List.mem_cons_self))

end Cert.ReferenceIdeal.Value

end
-- ==== Proof.ArgRow.lean ====
/- The position of the largest number of one row of a matrix: the pairs the reduction runs over are the row's numbers with
   their columns, whatever the matrix's size. -/
module

public import proofs.«01_k».proof.Proof.ArgFold
public import Idealize.ShloMosaic.PureOps.Ideal.Laws
public import Idealize.ShloMosaic.Lib.Pointwise

@[expose] public section

noncomputable section

namespace Cert.ReferenceIdeal.Value

open Idealize.ShloMosaic Cert.ReferenceIdeal

variable {N K : ℕ} (S : FVec Ideal ⟨2, ![N, K]⟩ .f32) (h : (⟨2, ![N, K]⟩ : Shape).ReducesTo [1] ⟨1, ![N]⟩)

/-- The pairs of row `n`: each number with its column. -/
theorem mem_row (n : Fin N) (q : Ideal .f32 × BitVec 32) :
    q ∈ Host.argReduceFiber S (iotaInDim ⟨2, ![N, K]⟩ 32 1) h (ix1 n) ↔ ∃ k : Fin K, q = (S (ix2 n k), BitVec.ofNat 32 k.val) := by
  unfold Host.argReduceFiber
  simp only [List.mem_map, List.mem_filter, List.mem_finRange, true_and, decide_eq_true_eq, Shape.ReducesTo.fiber_r2_a1]
  constructor
  · rintro ⟨a, ⟨k, hk⟩, rfl⟩
    rw [← hk]
    exact ⟨k, rfl⟩
  · rintro ⟨k, rfl⟩
    refine ⟨Shape.rowMajor _ (ix2 n k), ⟨k, ?_⟩, ?_⟩
    · rw [Equiv.symm_apply_apply]; rfl
    · rw [Equiv.symm_apply_apply]; rfl

/-- A column whose number comes before no other of its row is where the reduction ends. -/
theorem argReduce_row {u : Shape} (ix : FVec Ideal u .f32) (iy : u.Idx → BitVec 32) (hu : 0 < u.numel) (n : Fin N) (k₀ : Fin K)
    (hb : ∀ k : Fin K, Behind (S (ix2 n k₀), BitVec.ofNat 32 k₀.val) (S (ix2 n k), BitVec.ofNat 32 k.val))
    (h₀ : Behind (S (ix2 n k₀), BitVec.ofNat 32 k₀.val) (ix (Shape.Idx.first hu), iy (Shape.Idx.first hu))) :
    Host.argReduce reducer_argmax_f32_i32 S (iotaInDim ⟨2, ![N, K]⟩ 32 1) ix iy h hu (ix1 n)
      = (S (ix2 n k₀), BitVec.ofNat 32 k₀.val) := by
  rw [Ideal.argReduce_eq_reduce2, Host.reduce2_eq_foldl_fiber]
  refine foldl_eq _ _ ((mem_row S h n _).mpr ⟨k₀, rfl⟩) (fun q hq => ?_) _ h₀
  obtain ⟨k, rfl⟩ := (mem_row S h n q).mp hq
  exact hb k

end Cert.ReferenceIdeal.Value

end
-- ==== Proof.ReferenceValue.lean ====
/- What the reference computes. Over the real numbers row `n` of its scores is the negated squared distance of window `n` to
   each code, expanded; the reduction leaves the first position of the row's largest score, which is the window's code. -/
module

public import proofs.«01_k».proof.Proof.ReferenceRun
public import proofs.«01_k».proof.Proof.ArgRow
public import proofs.«01_k».proof.Proof.Digits
public import proofs.«01_k».proof.Proof.Constants
public import Idealize.ShloMosaic.Lib.Pointwise

@[expose] public section

noncomputable section

namespace Cert.ReferenceIdeal.Value

open Idealize.ShloMosaic Cert.ReferenceIdeal Cert.ReferenceIdeal.Facts₀

/-- A row's scores as sums over the eight numbers of the window. -/
theorem scores_apply (X : FVec Ideal S262144x8 .f32) (E : FVec Ideal S256x8 .f32) (n : Fin 262144) (k : Fin 256) :
    scores X (columns E) (ix2 n k)
      = -(∑ j, X (ix2 n j) * X (ix2 n j) - ((2 : ℝ) : EReal) * ∑ j, X (ix2 n j) * E (ix2 k j) + ∑ j, E (ix2 k j) * E (ix2 k j)) := by
  unfold scores columns windowSquares products codeSquares
  pointwise
  rw [Constants.two]

/-- A finite sum of real numbers, read in the extended reals. -/
private theorem coe_sum (f : Fin 8 → ℝ) : ∑ j, ((f j : ℝ) : EReal) = ((∑ j, f j : ℝ) : EReal) := by
  simp only [Fin.sum_univ_eight, EReal.coe_add]

/-- For a window of real numbers and the codebook of binary digits the score is the negated distance. -/
theorem scores_real (X : FVec Ideal S262144x8 .f32) (E : FVec Ideal S256x8 .f32) (n : Fin 262144) (r : Fin 8 → ℝ)
    (hX : ∀ j, X (ix2 n j) = ((r j : ℝ) : EReal)) (hE : ∀ (k : Fin 256) (j : Fin 8), E (ix2 k j) = ((Digits.bit k j : ℝ) : EReal))
    (k : Fin 256) : scores X (columns E) (ix2 n k) = ((-Digits.dist r k : ℝ) : EReal) := by
  rw [scores_apply]
  simp only [hX, hE, ← EReal.coe_mul, coe_sum, ← EReal.coe_sub, ← EReal.coe_add, ← EReal.coe_neg]
  rfl

/-- Positions below 256 keep their order as signed words. -/
private theorem toInt_ofNat (k : ℕ) (h : k < 256) : (BitVec.ofNat 32 k).toInt = (k : ℤ) := by
  have : (BitVec.ofNat 32 k).toNat = k := by rw [BitVec.toNat_ofNat]; omega
  rw [BitVec.toInt_eq_toNat_of_lt (by omega), this]

/-- The positions are the second components of the pairs. -/
private theorem positions_eq (S : FVec Ideal S262144x256 .f32) : positions S = fun n => (pairs S n).2 := rfl

/-- The pairs are the reduction's, row by row. -/
private theorem pairs_eq (S : FVec Ideal S262144x256 .f32) (n : Fin 262144) :
    pairs S (ix1 n) = Host.argReduce reducer_argmax_f32_i32 S (iotaInDim S262144x256 32 1)
      (constant (F := Ideal) S_ .f32 0xFF800000#32) (constantI S_ 32 0#32) reducesTo_S262144x256_S262144_d1 h_S_ (ix1 n) :=
  congrFun (show pairs S = Host.argReduce reducer_argmax_f32_i32 S (iotaInDim S262144x256 32 1)
    (constant (F := Ideal) S_ .f32 0xFF800000#32) (constantI S_ 32 0#32) reducesTo_S262144x256_S262144_d1 h_S_ from rfl) (ix1 n)

/-- The reduction of a row leaves the window's code. -/
theorem positions_apply (X : FVec Ideal S262144x8 .f32) (E : FVec Ideal S256x8 .f32) (n : Fin 262144) (r : Fin 8 → ℝ)
    (hX : ∀ j, X (ix2 n j) = ((r j : ℝ) : EReal)) (hE : ∀ (k : Fin 256) (j : Fin 8), E (ix2 k j) = ((Digits.bit k j : ℝ) : EReal)) :
    positions (scores X (columns E)) (ix1 n) = BitVec.ofNat 32 (Digits.code r) := by
  have hs := scores_real X E n r hX hE
  have hb (k : Fin 256) : Behind (scores X (columns E) (ix2 n ⟨Digits.code r, Digits.code_lt r⟩), BitVec.ofNat 32 (Digits.code r))
      (scores X (columns E) (ix2 n k), BitVec.ofNat 32 k.val) := by
    rw [hs, hs]
    rcases (Digits.neg_dist_le r k).lt_or_eq with h | h
    · exact .inl (EReal.coe_lt_coe_iff.mpr h)
    · refine .inr ⟨congrArg (fun d : ℝ => (d : EReal)) h, ?_⟩
      show (BitVec.ofNat 32 (Digits.code r)).toInt ≤ (BitVec.ofNat 32 k.val).toInt
      rw [toInt_ofNat _ (Digits.code_lt r), toInt_ofNat _ k.isLt]
      exact_mod_cast Digits.code_le_of_neg_dist_eq r k h
  have h₀ : Behind (scores X (columns E) (ix2 n ⟨Digits.code r, Digits.code_lt r⟩), BitVec.ofNat 32 (Digits.code r))
      (constant (F := Ideal) S_ .f32 0xFF800000#32 (Shape.Idx.first h_S_), constantI S_ 32 0#32 (Shape.Idx.first h_S_)) := by
    refine .inl ?_
    rw [hs]
    show Ideal.ofBits .f32 0xFF800000#32 < _
    rw [Constants.neg_inf]
    exact EReal.bot_lt_coe _
  refine (congrFun (positions_eq (scores X (columns E))) (ix1 n)).trans ?_
  show (pairs (scores X (columns E)) (ix1 n)).2 = _
  rw [pairs_eq, argReduce_row (N := 262144) (K := 256) (scores X (columns E)) reducesTo_S262144x256_S262144_d1
    (constant (F := Ideal) S_ .f32 0xFF800000#32) (constantI S_ 32 0#32) h_S_ n ⟨Digits.code r, Digits.code_lt r⟩ hb h₀]

end Cert.ReferenceIdeal.Value

end
-- ==== Proof.Precondition.lean ====
/- What the precondition says: every number of the windows is real, and row `k` of the codebook holds the eight binary
   digits of `k`. -/
module

public import proofs.«01_k».proof.Proof.Gen.Pre_finite_windows_and_binary_codebook
public import proofs.«01_k».proof.Proof.Digits
public import proofs.«01_k».proof.Proof.Constants
public import Idealize.ShloMosaic.Lib.Pointwise

@[expose] public section

noncomputable section

namespace Cert.Pre_finite_windows_and_binary_codebook.Value

open Idealize.ShloMosaic Cert.Pre_finite_windows_and_binary_codebook

/-- A one-bit word made from a condition is one exactly when the condition holds. -/
private theorem of_ofBool (p : Prop) [Decidable p] (h : BitVec.ofBool (decide p) = 1#1) : p := by
  by_contra hn
  rw [decide_eq_false hn] at h
  exact absurd h (by decide)

/-- A number whose absolute value is below plus infinity is real. -/
private theorem real_of_abs_lt (a : EReal) (h : max a (-a) < ⊤) : ∃ r : ℝ, a = (r : EReal) := by
  induction a with
  | bot => simp at h
  | top => simp at h
  | coe r => exact ⟨r, rfl⟩

/-- Under the precondition every number of the windows is real. -/
theorem windows_real (A : FVec Ideal S32x8192x2x4 .f32) (E : FVec Ideal S256x8 .f32)
    (h : (fn (F := Ideal) A E).1 = fun _ => 1#1) (i : S32x8192x2x4.Idx) : ∃ r : ℝ, A i = (r : EReal) := by
  have hi := congrFun h i
  unfold fn at hi
  idx_vars i
  pointwise at hi
  rw [Constants.inf] at hi
  exact real_of_abs_lt _ (of_ofBool _ hi)

/-- The word whose value is the digit: `k` shifted right by `j`, its lowest bit kept. -/
private theorem digit_word (k : Fin 256) (j : Fin 8) :
    (IntOp.andi (IntOp.shrsi .host (BitVec.ofNat 32 k.val) (BitVec.ofNat 32 j.val)) 1#32).toInt = (Digits.bit k j : ℤ) := by
  revert k j; unfold Digits.bit; decide +kernel

/-- Under the precondition row `k` of the codebook holds the binary digits of `k`. -/
theorem codebook_bit (A : FVec Ideal S32x8192x2x4 .f32) (E : FVec Ideal S256x8 .f32)
    (h : (fn (F := Ideal) A E).2 = fun _ => 1#1) (k : Fin 256) (j : Fin 8) :
    E (ix2 k j) = ((Digits.bit k j : ℝ) : EReal) := by
  have hi := congrFun h (ix2 k j)
  unfold fn at hi
  pointwise at hi
  refine (of_ofBool _ hi).trans ?_
  refine Eq.trans (b := (((IntOp.andi (IntOp.shrsi .host (BitVec.ofNat 32 k.val) (BitVec.ofNat 32 j.val)) 1#32).toInt : ℝ) : EReal)) rfl ?_
  rw [digit_word, Int.cast_natCast]

end Cert.Pre_finite_windows_and_binary_codebook.Value

end
-- ==== Proof.Equation.lean ====
/- The two programs' results agree: both hold, for window `8192 a + b` at place `(a, b)`, the window's code. -/
module

public import proofs.«01_k».proof.Proof.KernelRun
public import proofs.«01_k».proof.Proof.ReferenceValue
public import proofs.«01_k».proof.Proof.Precondition

@[expose] public section

noncomputable section

namespace Cert.Equation

open Idealize.ShloMosaic

/-- The windows as rows hold real numbers if their array does. -/
theorem windows_real (A : FVec Ideal Cert.KernelIdeal.S32x8192x2x4 .f32) (hA : ∀ i, ∃ r : ℝ, A i = (r : EReal)) (i) :
    ∃ r : ℝ, Cert.KernelIdeal.Value.windows A i = (r : EReal) := by
  unfold Cert.KernelIdeal.Value.windows
  unfold shapeCast
  exact hA _

/-- The two programs read the same windows. -/
theorem windows_eq (A : FVec Ideal Cert.KernelIdeal.S32x8192x2x4 .f32) :
    Cert.ReferenceIdeal.Value.windows A = Cert.KernelIdeal.Value.windows A := rfl

/-- Window `n`'s position is its code. -/
theorem positions_eq (A : FVec Ideal Cert.KernelIdeal.S32x8192x2x4 .f32) (E : FVec Ideal Cert.ReferenceIdeal.S256x8 .f32)
    (hA : ∀ i, ∃ r : ℝ, A i = (r : EReal)) (hE : ∀ (k : Fin 256) (j : Fin 8), E (ix2 k j) = ((Digits.bit k j : ℝ) : EReal))
    (n : Fin 262144) :
    Cert.ReferenceIdeal.Value.positions (Cert.ReferenceIdeal.Value.scores (Cert.ReferenceIdeal.Value.windows A)
        (Cert.ReferenceIdeal.Value.columns E)) (ix1 n)
      = BitVec.ofNat 32 (Digits.code fun j => (Cert.KernelIdeal.Value.windows A (ix2 n j)).toReal) := by
  refine Cert.ReferenceIdeal.Value.positions_apply _ E n _ (fun j => ?_) hE
  rw [windows_eq]
  obtain ⟨r, hr⟩ := windows_real A hA (ix2 n j)
  rw [hr, EReal.toReal_coe]

/-- One array of 262144 words, and the same words in eight rows of 32768, reshape to the same array. -/
private theorem reshape_eq (P : IVec Cert.ReferenceIdeal.S262144 32) (Q : IVec Cert.KernelIdeal.S8x1x32768 32)
    (h : ∀ (t : Fin 8) (l : Fin 32768), Q (ix3 t 0 l) = P (ix1 (Cert.KernelIdeal.Value.laneWindow t l))) :
    shapeCast Cert.ReferenceIdeal.S32x8192 P Cert.ReferenceIdeal.Facts₀.shapeCasts_S262144_S32x8192
      = shapeCast Cert.KernelIdeal.S32x8192 Q Cert.KernelIdeal.Gen.shapeCasts_S8x1x32768_S32x8192 := by
  funext i
  idx_vars i
  pointwise
  rw [h]
  refine congrArg (fun n => P (ix1 n)) (Fin.ext ?_)
  show i0.val * 8192 + i1.val = i0.val / 4 * 32768 + (i0.val % 4 * 8192 + i1.val)
  omega

/-- The results agree. -/
theorem result_eq (A : FVec Ideal Cert.KernelIdeal.S32x8192x2x4 .f32) (E : FVec Ideal Cert.ReferenceIdeal.S256x8 .f32)
    (hA : ∀ i, ∃ r : ℝ, A i = (r : EReal)) (hE : ∀ (k : Fin 256) (j : Fin 8), E (ix2 k j) = ((Digits.bit k j : ℝ) : EReal)) :
    Cert.ReferenceIdeal.Value.result A E = Cert.KernelIdeal.Value.result A := by
  have hp := positions_eq A E hA hE
  unfold Cert.ReferenceIdeal.Value.result Cert.KernelIdeal.Value.result
  generalize Cert.ReferenceIdeal.Value.positions _ = P at hp ⊢
  have hq (t : Fin 8) (l : Fin 32768) :
      Cert.KernelIdeal.Value.codes A (ix3 t 0 l) = P (ix1 (Cert.KernelIdeal.Value.laneWindow t l)) := (hp _).symm
  generalize Cert.KernelIdeal.Value.codes A = Q at hq ⊢
  exact reshape_eq P Q hq

end Cert.Equation

end
-- ==== Proof.lean ====
/- The claims about the kernel, each from a run. The frames: the two kernels' from their generated runs, the reference's from
   its own. The value claim: over the real numbers, when the windows are real and the codebook holds the binary digits, the
   idealized kernel and the reference end with the same array of codes. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.Pre_finite_windows_and_binary_codebook
public import proofs.«01_k».proof.Proof.Equation
public import Idealize.ShloMosaic.Lib.Claim

@[expose] public section

noncomputable section

namespace Cert.Proof

open Idealize.ShloMosaic Idealize.SL.Sem

/-- The idealized kernel computes the reference's result. -/
theorem algebraic : Cert.algebraic_KernelIdeal_ReferenceIdeal_pre_finite_windows_and_binary_codebook := by
  intro m g m' g' hpre hagree
  have hA (c) := Cert.Pre_finite_windows_and_binary_codebook.Value.windows_real _ _ (hpre c).1
  have hE (c) := Cert.Pre_finite_windows_and_binary_codebook.Value.codebook_bit _ _ (hpre c).2
  refine ⟨fun c => Cert.KernelIdeal.Value.result (m (c.tc.loc Cert.KernelIdeal.main_arg0)),
    Cert.KernelIdeal.Value.run m g fun c => Cert.Equation.windows_real _ (hA c),
    (θ_run _ _ _).mono (fun r hr c => ⟨(hr c).1.trans ?_, (hr c).2⟩) (Cert.ReferenceIdeal.Value.run m' g')⟩
  rw [(hagree c).1, (hagree c).2]
  exact Cert.Equation.result_eq _ _ (hA c) (hE c)

/-- Every claim. -/
theorem claim : Cert.Claim :=
  ⟨Cert.Kernel.Gen.facts, Cert.KernelIdeal.Gen.facts, Cert.ReferenceIdeal.Gen.facts,
    Cert.Pre_finite_windows_and_binary_codebook.Gen.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Value.frame m ρ,
    fun m ρ _ => Cert.ReferenceIdeal.Value.frame m ρ, trivial, algebraic⟩

end Cert.Proof

end
